-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x6144 : Shape := ⟨3, ![2, 1024, 6144]⟩
abbrev S1 : Shape := ⟨1, ![1]⟩
abbrev S576x6144 : Shape := ⟨2, ![576, 6144]⟩
abbrev S576 : Shape := ⟨1, ![576]⟩
abbrev S512 : Shape := ⟨1, ![512]⟩
abbrev S1x576 : Shape := ⟨2, ![1, 576]⟩
abbrev S1x512 : Shape := ⟨2, ![1, 512]⟩
abbrev S2x1024x512 : Shape := ⟨3, ![2, 1024, 512]⟩
abbrev S2x1024x64 : Shape := ⟨3, ![2, 1024, 64]⟩
abbrev S2x1024 : Shape := ⟨2, ![2, 1024]⟩
abbrev S1x256x6144 : Shape := ⟨3, ![1, 256, 6144]⟩
abbrev S1x256x512 : Shape := ⟨3, ![1, 256, 512]⟩
abbrev S1x256x64 : Shape := ⟨3, ![1, 256, 64]⟩
abbrev S1x128 : Shape := ⟨2, ![1, 128]⟩
abbrev S1x1 : Shape := ⟨2, ![1, 1]⟩
abbrev S256x6144 : Shape := ⟨2, ![256, 6144]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x256 : Shape := ⟨2, ![1, 256]⟩
abbrev S256x576 : Shape := ⟨2, ![256, 576]⟩
abbrev S256x512 : Shape := ⟨2, ![256, 512]⟩
abbrev S256x64 : Shape := ⟨2, ![256, 64]⟩

abbrev nBuf : Space → Nat
  | .hbm => 11
  | .vmem => 12
  | .smem => 1
  | _ => 0

abbrev bufTy : (tb : Table) → Fin (tcTables nBuf tb) → BufTy
  | .hbm, ⟨0, _⟩ => ⟨S2x1024x6144, .bf16⟩
  | .hbm, ⟨1, _⟩ => ⟨S1, .f32⟩
  | .hbm, ⟨2, _⟩ => ⟨S576x6144, .fp8e4m3⟩
  | .hbm, ⟨3, _⟩ => ⟨S576, .f32⟩
  | .hbm, ⟨4, _⟩ => ⟨S512, .f32⟩
  | .hbm, ⟨5, _⟩ => ⟨S1x576, .f32⟩
  | .hbm, ⟨6, _⟩ => ⟨S1x512, .f32⟩
  | .hbm, ⟨7, _⟩ => ⟨S2x1024x512, .bf16⟩
  | .hbm, ⟨8, _⟩ => ⟨S2x1024x64, .bf16⟩
  | .hbm, ⟨9, _⟩ => ⟨S2x1024x6144, .fp8e4m3⟩
  | .hbm, ⟨10, _⟩ => ⟨S2x1024, .f32⟩
  | .local _ .vmem, ⟨0, _⟩ => ⟨S1x256x6144, .bf16⟩
  | .local _ .vmem, ⟨1, _⟩ => ⟨S1x256x6144, .bf16⟩
  | .local _ .vmem, ⟨2, _⟩ => ⟨S576x6144, .fp8e4m3⟩
  | .local _ .vmem, ⟨3, _⟩ => ⟨S1x576, .f32⟩
  | .local _ .vmem, ⟨4, _⟩ => ⟨S1x512, .f32⟩
  | .local _ .vmem, ⟨5, _⟩ => ⟨S1x256x512, .bf16⟩
  | .local _ .vmem, ⟨6, _⟩ => ⟨S1x256x512, .bf16⟩
  | .local _ .vmem, ⟨7, _⟩ => ⟨S1x256x64, .bf16⟩
  | .local _ .vmem, ⟨8, _⟩ => ⟨S1x256x64, .bf16⟩
  | .local _ .vmem, ⟨9, _⟩ => ⟨S1x256x6144, .fp8e4m3⟩
  | .local _ .vmem, ⟨10, _⟩ => ⟨S1x256x6144, .fp8e4m3⟩
  | .local _ .vmem, ⟨11, _⟩ => ⟨S2x1024, .f32⟩
  | .local _ .smem, ⟨0, _⟩ => ⟨S1, .f32⟩
  | _, _ => ⟨S2x1024x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨2, ![2, 4], ![false, false]⟩

def k0_off1 (i : grid0.Coords) : Fin 2 → Nat :=
  let arg0 : BitVec 32 := BitVec.ofNat 32 (i 0).val
  let v27 : Index := Scalar.indexCast arg0
  let arg1 : BitVec 32 := BitVec.ofNat 32 (i 1).val
  let c256_i32 : BitVec 32 := 256#32
  let v26 : BitVec 32 := Scalar.muli arg1 c256_i32
  let v28 : Index := Scalar.indexCast v26
  ![v27.toNat, v28.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S576x6144 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x576 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x6144 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S2x1024x6144 : Shape := ⟨3, ![2, 1024, 6144]⟩
abbrev S1 : Shape := ⟨1, ![1]⟩
abbrev S576x6144 : Shape := ⟨2, ![576, 6144]⟩
abbrev S576 : Shape := ⟨1, ![576]⟩
abbrev S512 : Shape := ⟨1, ![512]⟩
abbrev S2x1024x512 : Shape := ⟨3, ![2, 1024, 512]⟩
abbrev S2x1024x64 : Shape := ⟨3, ![2, 1024, 64]⟩
abbrev S2x1024 : Shape := ⟨2, ![2, 1024]⟩
abbrev S2x1024x576 : Shape := ⟨3, ![2, 1024, 576]⟩
abbrev S1x1x576 : Shape := ⟨3, ![1, 1, 576]⟩
abbrev S2x1024x1 : Shape := ⟨3, ![2, 1024, 1]⟩
abbrev S1x1x512 : Shape := ⟨3, ![1, 1, 512]⟩

abbrev nBuf : Space → Nat
  | .hbm => 9
  | .vmem => 9
  | .smem => 0
  | _ => 0

abbrev bufTy : (tb : Table) → Fin (tcTables nBuf tb) → BufTy
  | .hbm, ⟨0, _⟩ => ⟨S2x1024x6144, .bf16⟩
  | .hbm, ⟨1, _⟩ => ⟨S1, .f32⟩
  | .hbm, ⟨2, _⟩ => ⟨S576x6144, .fp8e4m3⟩
  | .hbm, ⟨3, _⟩ => ⟨S576, .f32⟩
  | .hbm, ⟨4, _⟩ => ⟨S512, .f32⟩
  | .hbm, ⟨5, _⟩ => ⟨S2x1024x512, .bf16⟩
  | .hbm, ⟨6, _⟩ => ⟨S2x1024x64, .bf16⟩
  | .hbm, ⟨7, _⟩ => ⟨S2x1024x6144, .fp8e4m3⟩
  | .hbm, ⟨8, _⟩ => ⟨S2x1024, .f32⟩
  | .local _ .vmem, ⟨0, _⟩ => ⟨S2x1024x6144, .bf16⟩
  | .local _ .vmem, ⟨1, _⟩ => ⟨S1, .f32⟩
  | .local _ .vmem, ⟨2, _⟩ => ⟨S576x6144, .fp8e4m3⟩
  | .local _ .vmem, ⟨3, _⟩ => ⟨S576, .f32⟩
  | .local _ .vmem, ⟨4, _⟩ => ⟨S512, .f32⟩
  | .local _ .vmem, ⟨5, _⟩ => ⟨S2x1024x512, .bf16⟩
  | .local _ .vmem, ⟨6, _⟩ => ⟨S2x1024x64, .bf16⟩
  | .local _ .vmem, ⟨7, _⟩ => ⟨S2x1024x6144, .fp8e4m3⟩
  | .local _ .vmem, ⟨8, _⟩ => ⟨S2x1024, .f32⟩
  | _, _ => ⟨S2x1024x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x1024x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S576x6144 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S576 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024x6144 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KernelBody.lean ====
/- One run of the kernel body on staging buffers: what each result block holds afterwards, as named functions of the
   blocks the body reads. Generic in the number type. -/
module

public import proofs.«01_k».proof.Proof.Gen.KernelIdeal.Frame
public import proofs.«01_k».proof.Proof.Gen.KernelIdeal.Skeleton
public import proofs.«01_k».proof.Proof.Gen.KernelIdeal.Points
public import proofs.«01_k».proof.Proof.Gen.KernelIdeal.Launch
public import Idealize.ShloMosaic.Lib.WritesUnit
public import Idealize.ShloMosaic.Lib.VecWindow
public import Idealize.ShloMosaic.Lib.Pipeline.Value
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one scale word of a one-element array. -/
def word (x0 : Vec F S1 .f32) : Elt F .f32 := x0 fun a => ⟨0, by fin_cases a; decide⟩

/-- The block of normalised activations the body leaves, of the five blocks it reads. -/
def cBlk (x0 : Vec F S1 .f32) (x1 : Vec F S1x256x6144 .bf16) (x2 : Vec F S576x6144 .fp8e4m3) (x3 : Vec F S1x576 .f32)
    (x4 : Vec F S1x512 .f32) : Vec F S1x256x512 .bf16 := k0_pay1 (k0_pay8 (word x0) x1 x2 x3) x4

/-- The block of position keys the body leaves. -/
def peBlk (x0 : Vec F S1 .f32) (x1 : Vec F S1x256x6144 .bf16) (x2 : Vec F S576x6144 .fp8e4m3) (x3 : Vec F S1x576 .f32) :
    Vec F S1x256x64 .bf16 := k0_pay2 (k0_pay7 (word x0) x1 x2 x3)

/-- The block of codes the body leaves. -/
def codesBlk (x0 : Vec F S1 .f32) (x1 : Vec F S1x256x6144 .bf16) : Vec F S1x256x6144 .fp8e4m3 := k0_pay5 (word x0) x1

/-- The amax buffer after grid point `i`: the point's row of 256 maxima at its place, the rest as found. -/
def amaxPut (i : grid0.Coords) (x1 : Vec F S1x256x6144 .bf16) (Y : Vec F S2x1024 .f32) : Vec F S2x1024 .f32 := fun y =>
  if h : ∀ a, k0_off1 i a ≤ (y a).val ∧ (y a).val < k0_off1 i a + S1x256.size a then
    k0_pay6 x1 (Rect.unitLocal (s := S2x1024) (off := k0_off1 i) (size := S1x256.size) y h)
  else Y y

/-- A one-element array read at any index gives its one word. -/
theorem word_eq (x0 : Vec F S1 .f32) (i : S1.Idx) : x0 i = word x0 :=
  congrArg x0 (funext fun a => Fin.ext (by
    match a with
    | ⟨0, _⟩ => have h : (i 0).val < 1 := (i 0).isLt
                show (i 0).val = 0
                omega))

set_option maxHeartbeats 1000000 in
/-- The body's triple: on whole staging buffers, the inputs' at contents `x0 … x4`, three result buffers at anything and
    the amax buffer at `Y`, the body leaves the inputs as they were, the three result blocks at `cBlk`, `peBlk`,
    `codesBlk` of the inputs, and the amax buffer at `amaxPut`. -/
theorem body_run (c : Dev nD) (i : grid0.Coords) (arg2 : Memref sig .tc .smem S1 .f32) (harg2 : arg2.IsWhole) (arg3 : Memref sig .tc .vmem S1x256x6144 .bf16) (harg3 : arg3.IsWhole) (arg4 : Memref sig .tc .vmem S576x6144 .fp8e4m3) (harg4 : arg4.IsWhole) (arg5 : Memref sig .tc .vmem S1x576 .f32) (harg5 : arg5.IsWhole) (arg6 : Memref sig .tc .vmem S1x512 .f32) (harg6 : arg6.IsWhole) (arg7 : Memref sig .tc .vmem S1x256x512 .bf16) (harg7 : arg7.IsWhole) (arg8 : Memref sig .tc .vmem S1x256x64 .bf16) (harg8 : arg8.IsWhole) (arg9 : Memref sig .tc .vmem S1x256x6144 .fp8e4m3) (harg9 : arg9.IsWhole) (arg10 : Memref sig .tc .vmem S2x1024 .f32) (harg10 : arg10.IsWhole)
    (x0 : Vec F S1 .f32) (x1 : Vec F S1x256x6144 .bf16) (x2 : Vec F S576x6144 .fp8e4m3) (x3 : Vec F S1x576 .f32) (x4 : Vec F S1x512 .f32) (Y : Vec F S2x1024 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare Y
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (cBlk x0 x1 x2 x3 x4) ∗ owns (c : Thread nD τ) arg8 fullShare (peBlk x0 x1 x2 x3) ∗ owns (c : Thread nD τ) arg9 fullShare (codesBlk x0 x1) ∗ owns (c : Thread nD τ) arg10 fullShare (amaxPut i x1 Y)) -∗ K ⟨⟩))
          ⊢ wp frame (wpE (defs₀ (F := F)) Variants.none c none) E (cc0_mla_kv_down i arg2 harg2 arg3 harg3 arg4 harg4 arg5 harg5 arg6 harg6 arg7 harg7 arg8 harg8 arg9 harg9 arg10 harg10) K := by
    intro E K
    simp only [cc0_mla_kv_down_eq_skeleton]; unfold cc0_mla_kv_down_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, Hk⟩
    subst hf0 hf1 hf2 hf3 hf4 hf8
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr; swap; · iexact H5
      ipureintro
      refine (View.read_writes_full (s := S1x256x512) _ _ _ _ _).trans ?_
      unfold cBlk body_run.sl.r_2 body_run.sl.r
      rw [View.readAt_full (s := S1x256x6144), View.readAt_full (s := S576x6144), View.readAt_full (s := S1x576),
        View.readAt_full (s := S1), word_eq (arg2.view.read (Elt F) f0)]
      exact congrArg (k0_pay1 _) (View.readAt_full (s := S1x512) _ _ _)
    isplitl [H6]
    · iexists _; isplitr; swap; · iexact H6
      ipureintro
      refine (View.read_writes_full (s := S1x256x64) _ _ _ _ _).trans ?_
      unfold peBlk body_run.sl.r_1 body_run.sl.r
      rw [View.readAt_full (s := S1x256x6144), View.readAt_full (s := S576x6144), View.readAt_full (s := S1x576),
        View.readAt_full (s := S1), word_eq (arg2.view.read (Elt F) f0)]
    isplitl [H7]
    · iexists _; isplitr; swap; · iexact H7
      ipureintro
      refine (View.read_writes_full (s := S1x256x6144) _ _ _ _ _).trans ?_
      unfold codesBlk body_run.sl.r
      rw [View.readAt_full (s := S1x256x6144), View.readAt_full (s := S1), word_eq (arg2.view.read (Elt F) f0)]
    iexists _; isplitr; swap; · iexact H8
    ipureintro
    funext y
    refine (View.read_writes_cons_unit _ _ _ _ _ y rfl).trans ?_
    rw [View.readAt_full (s := S1x256x6144)]
    rfl

end Cert.KernelIdeal.Hand

end
-- ==== Proof.KernelRun.lean ====
/- The kernel's launch: at every grid point the result blocks are the named functions of that point's input blocks, and
   the amax buffer holds the rows of all points so far. Generic in the number type. -/
module

public import proofs.«01_k».proof.Proof.KernelBody
public import Idealize.ShloMosaic.Lib.Pipeline.DatRel
public import Idealize.ShloMosaic.Lib.Pipeline.ArrRel
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where a grid point's row of maxima lies -/

/-- Point `t`'s row of 256 maxima starts at row `t / 4`, column `256 * (t % 4)`. -/
theorem off1_eq : ∀ (t : Fin grid0.N), k0_off1 (grid0.coords t) = ![t.val / 4, 256 * (t.val % 4)] := by
  decide +kernel

/-- The element `y` of the amax buffer lies in point `t`'s row. -/
def InTile (t : Fin cfg0.N) (y : S2x1024.Idx) : Prop :=
  ∀ a, k0_off1 (grid0.coords t) a ≤ (y a).val ∧ (y a).val < k0_off1 (grid0.coords t) a + S1x256.size a

/-- No element lies in the rows of two points. -/
theorem InTile.unique {t u : Fin cfg0.N} {y : S2x1024.Idx} (ht : InTile t y) (hu : InTile u y) : t = u := by
  unfold InTile at ht hu
  rw [off1_eq] at ht hu
  have h0 := ht 0; have h1 := ht 1; have g0 := hu 0; have g1 := hu 1
  simp only [Matrix.cons_val_zero, Matrix.cons_val_one, show S1x256.size 0 = 1 from rfl, show S1x256.size 1 = 256 from rfl] at h0 h1 g0 g1
  apply Fin.ext
  omega

/-- Every element lies in the row of a point. -/
theorem InTile.exists (y : S2x1024.Idx) : ∃ t : Fin cfg0.N, InTile t y := by
  have h0 : (y 0).val < 2 := (y 0).isLt
  have h1 : (y 1).val < 1024 := (y 1).isLt
  have hN : cfg0.N = 8 := N_0
  refine ⟨⟨4 * (y 0).val + (y 1).val / 256, by omega⟩, ?_⟩
  unfold InTile
  rw [off1_eq]
  intro a
  fin_cases a
  · show (4 * (y 0).val + (y 1).val / 256) / 4 ≤ (y 0).val ∧ (y 0).val < (4 * (y 0).val + (y 1).val / 256) / 4 + 1
    omega
  · show 256 * ((4 * (y 0).val + (y 1).val / 256) % 4) ≤ (y 1).val ∧ (y 1).val < 256 * ((4 * (y 0).val + (y 1).val / 256) % 4) + 256
    omega

/-! ## What the body leaves -/

/-- The windows of the four results. -/
def isRes : Fin cfg0.W → Bool := fun w => w.val == 5 || w.val == 6 || w.val == 7 || w.val == 8

/-- What the body leaves in a result's buffer at point `t`: the normalised block, the position keys and the codes of the
    point's input blocks; in the amax buffer, the rows of the points up to `t`. -/
def Rl (c : Dev nD) (w : Fin cfg0.W) (t : Fin cfg0.N) : ((cfg0.win w).block.Idx → Elt F (cfg0.win w).elt) → Prop :=
  match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun X => X = cBlk (F := F) (iblk m c 0 t) (iblk m c 1 t) (iblk m c 2 t) (iblk m c 3 t) (iblk m c 4 t)
  | ⟨6, _⟩ => fun X => X = peBlk (F := F) (iblk m c 0 t) (iblk m c 1 t) (iblk m c 2 t) (iblk m c 3 t)
  | ⟨7, _⟩ => fun X => X = codesBlk (F := F) (iblk m c 0 t) (iblk m c 1 t)
  | ⟨8, _⟩ => fun X => ∀ u : Fin cfg0.N, u ≤ t → ∀ (y : S2x1024.Idx) (h : InTile u y),
      X y = k0_pay6 (F := F) (iblk m c 1 u) (Rect.unitLocal (s := S2x1024) (off := k0_off1 (grid0.coords u)) (size := S1x256.size) y h)

/-- The proof data of the pipeline on core `c`: the arrays as the region finds them, each input's buffer left at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The proof data with the results held to `Rl`. -/
abbrev rdat (c : Dev nD) := (dats (F := F) m 0 c).toRRel isRes (Rl m c)

/-- The proof data's arrays are the contents at the region's entry. -/
theorem A_eq (c : Dev nD) (w : Fin cfg0.W) : (dats m 0 c).A w = V m c (Pipeline.arrRef spec0 w) := by
  dsimp only [dats]

/-- What the body leaves in each input's buffer: its block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- What the body finds in each input's buffer, fetched there or not: its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The amax buffer after point `t` holds the rows of the points up to `t`, whatever admissible it held before. -/
theorem amax_step (c : Dev nD) (t : Fin cfg0.N) (Y : Vec F S2x1024 .f32) (hY : (rdat m c).Finds 8 t Y) :
    Rl m c 8 t (amaxPut (F := F) (grid0.coords t) (iblk m c 1 t) Y) := by
  intro u hu y h
  by_cases htu : u = t
  · subst htu
    exact dif_pos h
  · have hne : ¬ InTile t y := fun ht => htu (h.unique ht)
    have hlt : u.val < t.val := by
      have h1 : u.val ≤ t.val := hu
      have h2 : u.val ≠ t.val := fun e => htu (Fin.ext e)
      omega
    refine Eq.trans (dif_neg hne) ?_
    have hN : cfg0.N = 8 := N_0
    have htN := t.isLt
    have hfet : (cfg0.win 8).fetch t = false := rfl
    rcases ((rdat m c).finds_of_pos hfet (by omega) Y).mp hY with hf | hL
    · exfalso
      have := (flush0_8 _).mp hf
      dsimp only at this
      omega
    · exact (dats (F := F) m 0 c).toRRel_leaves (w := 8) (by decide) hL u (show u.val ≤ t.val - 1 by omega) y h

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ Y, ⌜(rdat m c).Finds 5 t Y⌝ ∗ owns (c : Thread nD τ) (st0_5 t) fullShare Y)
    ∗ (∃ Y, ⌜(rdat m c).Finds 6 t Y⌝ ∗ owns (c : Thread nD τ) (st0_6 t) fullShare Y)
    ∗ (∃ Y, ⌜(rdat m c).Finds 7 t Y⌝ ∗ owns (c : Thread nD τ) (st0_7 t) fullShare Y)
    ∗ (∃ Y, ⌜(rdat m c).Finds 8 t Y⌝ ∗ owns (c : Thread nD τ) (st0_8 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, ⌜Rl m c 5 t X⌝ ∗ owns (c : Thread nD τ) (st0_5 t) fullShare X)
    ∗ (∃ X, ⌜Rl m c 6 t X⌝ ∗ owns (c : Thread nD τ) (st0_6 t) fullShare X)
    ∗ (∃ X, ⌜Rl m c 7 t X⌝ ∗ owns (c : Thread nD τ) (st0_7 t) fullShare X)
    ∗ (∃ X, ⌜Rl m c 8 t X⌝ ∗ owns (c : Thread nD τ) (st0_8 t) fullShare X))

set_option maxHeartbeats 800000 in
/-- The body at any point: from the inputs' blocks and admissible result buffers it leaves results that meet `Rl`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩, ⟨%d5, -, H5⟩, ⟨%d6, -, H6⟩, ⟨%d7, -, H7⟩, ⟨%Y, %hY, H8⟩⟩
  iapply ((body_run c (grid0.coords t) _ _ _ _ _ _ _ _ _ _ _ _ _ _ _ _ _ _ (iblk m c 0 t) (iblk m c 1 t) (iblk m c 2 t) (iblk m c 3 t) (iblk m c 4 t) Y) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  iexists _; isplitr; swap; · iexact H8
  ipureintro; exact amax_step m c t Y hY

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, the results held to `Rl`, at every point. -/
theorem body_obligation (c : Dev nD) :
    Pipeline.BodyObligationRel (dats (F := F) m 0 c) (defs₀ (F := F)) Variants.none () Set.univ isRes (Rl m c) := fun t => by
  rw [bigSep_W0, bigSep_W0, defs₀_row]
  exact triple_restated (sound_body m c t) rfl .rfl fun _ => .rfl

/-! ## The run and the frame -/

set_option backward.isDefEq.respectTransparency.types false in
/-- The launch: every fair execution ends with the arrays at what the proof data allow and every semaphore at zero. -/
theorem run_main : θ_run defs (onTc (τ := τ) (main (F := F))) (s₀ m ρ)
    (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := fun _ => .rfl) (hout := fun _ => .rfl)

/-- After the run the argument arrays are as launched. -/
theorem args_of_post {r : PUnit × MemSt nD τ sig (Elt F)} (h : Pipeline.RDat.FramePost (cfgs 0) (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h.arr_in c 1 rfl).trans ((A_eq m c 1).trans (V_main_arg0 m c)),
    (h.arr_in c 0 rfl).trans ((A_eq m c 0).trans (V_main_arg1 m c)),
    (h.arr_in c 2 rfl).trans ((A_eq m c 2).trans (V_main_arg2 m c)),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The frame: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_of_post m h.1, h.2⟩) (run_main m ρ)

end Cert.KernelIdeal.Hand

end
-- ==== Proof.KernelFrame.lean ====
/- The frame of the kernel read over the device's numbers: its program is the idealized kernel's, definition by definition
   (nothing was rewritten), and that program's frame is proved for every number type. -/
module

public import proofs.«01_k».proof.Proof.KernelRun
public import proofs.«01_k».proof.Proof.Gen.Kernel.Skeleton

@[expose] public section

set_option maxRecDepth 16384

noncomputable section

namespace Cert.Kernel.Hand

open Cert.Kernel
open Idealize.ShloMosaic Idealize.ShloMosaic.TcCoe Idealize.SL.Sem

variable {F : FTy → Type} [FloatOps F]

/-- The two programs' tables of kernel bodies are the same. -/
theorem defs₀_eq : defs₀ (F := F) = Cert.KernelIdeal.defs₀ (F := F) := by
  unfold defs₀ Cert.KernelIdeal.defs₀
  refine congrArg Defs.onTc (funext fun l => funext fun a => ?_)
  match l, a with
  | 0, (t, s) => rfl

/-- So are their tables of all bodies. -/
theorem defs_eq : defs (F := F) = Cert.KernelIdeal.defs (F := F) := by
  unfold defs Cert.KernelIdeal.defs
  exact congrArg (Pipeline.defs _) defs₀_eq

/-- The frame: the argument arrays end unchanged and every semaphore counter ends at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq]
  exact Cert.KernelIdeal.Hand.frame m ρ

end Cert.Kernel.Hand

end
-- ==== Proof.Blocks.lean ====
/- One block of the kernel against the reference, over the extended reals: what the body computes at a grid point from the
   blocks of that point is the reference's result at the block's place in the whole array. -/
module

public import proofs.«01_k».proof.Proof.KernelRun
public import proofs.«01_k».proof.Proof.Gen.ReferenceIdeal.Value
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-! ## The reference's four results of core `c`'s arguments -/

/-- The reference's normalised activations of the arguments. -/
abbrev refC (c : Dev nD) : Vec Ideal S2x1024x512 .bf16 :=
  Cert.ReferenceIdeal.Value.G5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- The reference's position keys of the arguments. -/
abbrev refPe (c : Dev nD) : Vec Ideal S2x1024x64 .bf16 :=
  Cert.ReferenceIdeal.Value.G6 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- The reference's codes of the arguments. -/
abbrev refCodes (c : Dev nD) : Vec Ideal S2x1024x6144 .fp8e4m3 :=
  Cert.ReferenceIdeal.Value.G7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- The reference's row maxima of the arguments. -/
abbrev refAmax (c : Dev nD) : Vec Ideal S2x1024 .f32 :=
  Cert.ReferenceIdeal.Value.G8 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-! ## The blocks -/

/-- The block index of every window at grid point `t`. -/
theorem idx : ∀ t : Fin cfg0.N, win0_0.index t = ![0] ∧ win0_1.index t = ![t.val / 4, t.val % 4, 0] ∧ win0_2.index t = ![0, 0]
    ∧ win0_3.index t = ![0, 0] ∧ win0_4.index t = ![0, 0] ∧ win0_5.index t = ![t.val / 4, t.val % 4, 0]
    ∧ win0_6.index t = ![t.val / 4, t.val % 4, 0] ∧ win0_7.index t = ![t.val / 4, t.val % 4, 0] ∧ win0_8.index t = ![0, 0] :=
  (by decide +kernel : ∀ t : Fin grid0.N, _)

/-- The scale word that every point reads is the one element of the scale argument. -/
theorem word_iblk (c : Dev nD) (t : Fin cfg0.N) :
    word (F := Ideal) (iblk m c 0 t) = m ((c.tc : Thread nD τ).loc main_arg1) (ix1 0) := by
  refine (word_eq (F := Ideal) (iblk m c 0 t) (ix1 0)).symm.trans ?_
  blk_ext [iblk, V, idx t]

/-- The weight block is the whole weight argument. -/
theorem iblk_2 (c : Dev nD) (t : Fin cfg0.N) : iblk m c 2 t = m ((c.tc : Thread nD τ).loc main_arg2) := by
  blk_ext! [iblk, V, idx t]

/-- The column scales' block at a column is the scale argument there. -/
theorem iblk_3 (c : Dev nD) (t : Fin cfg0.N) (j : Fin 576) :
    iblk m c 3 t (ix2 0 j) = m ((c.tc : Thread nD τ).loc main_arg3) (ix1 j) := by
  blk_ext! [iblk, V, idx t]

/-- The norm weights' block at a column is the weight argument there. -/
theorem iblk_4 (c : Dev nD) (t : Fin cfg0.N) (j : Fin 512) :
    iblk m c 4 t (ix2 0 j) = m ((c.tc : Thread nD τ).loc main_arg4) (ix1 j) := by
  blk_ext! [iblk, V, idx t]

/-- The codes of a block are the reference's codes at the block's place. -/
theorem codes_point (c : Dev nD) (t : Fin cfg0.N) (y : S1x256x6144.Idx) :
    codesBlk (F := Ideal) (iblk m c 0 t) (iblk m c 1 t) y
      = refCodes m c ((win0_7.blk t).view.emb y) := by
  unfold codesBlk
  rw [word_iblk]
  pointwise [k0_pay5, k0_pay4, k0_pay3, refCodes, Cert.ReferenceIdeal.Value.G7, Cert.ReferenceIdeal.Gen.k0_pay4]
  blk_point [iblk, V, idx t]

/-- Minus infinity in either format is the least extended real. -/
theorem ninf_eq : Ideal.ofBits .bf16 0xFF80#16 = Ideal.ofBits .f32 0xFF800000#32 := by
  simp [Ideal.ofBits, Ideal.ieee]

/-- Where row `i` of point `t`'s block lies in the array: batch `t / 4`, row `256 * (t % 4) + i`. -/
abbrev rowIx (t : Fin cfg0.N) (i : Fin 256) : S2x1024.Idx :=
  ix2 ⟨t.val / 4, by have := t.isLt; have : cfg0.N = 8 := N_0; omega⟩ ⟨256 * (t.val % 4) + i.val, by omega⟩

/-- The maxima of a block are the reference's at the block's rows. -/
theorem amax_point (c : Dev nD) (t : Fin cfg0.N) (i : Fin 256) :
    k0_pay6 (F := Ideal) (iblk m c 1 t) (ix2 0 i) = refAmax m c (rowIx t i) := by
  have h (x : Fin 6144) : iblk m c 1 t (ix3 0 i x) = m ((c.tc : Thread nD τ).loc main_arg0)
      (ix3 (rowIx t i 0) (rowIx t i 1) x) := by
    blk_ext [iblk, V, idx t]
    · show t.val / 4 + 0 = t.val / 4
      omega
    · show t.val % 4 * 256 + i.val = 256 * (t.val % 4) + i.val
      omega
  pointwise [k0_pay6, k0_pay3, refAmax, Cert.ReferenceIdeal.Value.G8, Cert.ReferenceIdeal.Gen.k0_pay3]
  rw [ninf_eq]
  exact congrArg (fun f => Finset.fold max (Ideal.ofBits .f32 0xFF800000#32) f Finset.univ)
    (funext fun x => congrArg (FloatOps.absf (F := Ideal) (φ := .bf16)) (h x))

/-- The position keys of a block are the reference's at the block's place. -/
theorem pe_point (c : Dev nD) (t : Fin cfg0.N) (y : S1x256x64.Idx) :
    peBlk (F := Ideal) (iblk m c 0 t) (iblk m c 1 t) (iblk m c 2 t) (iblk m c 3 t) y
      = refPe m c ((win0_6.blk t).view.emb y) := by
  unfold peBlk
  rw [word_iblk]
  pointwise [k0_pay2, k0_pay7, k0_pay4, k0_pay3, refPe, Cert.ReferenceIdeal.Value.G6, Cert.ReferenceIdeal.Gen.k0_pay2, Cert.ReferenceIdeal.Gen.k0_pay5, Cert.ReferenceIdeal.Gen.k0_pay4]
  blk_point [iblk, V, idx t]

/-- The normalised block is the reference's at the block's place. -/
theorem c_point (c : Dev nD) (t : Fin cfg0.N) (y : S1x256x512.Idx) :
    cBlk (F := Ideal) (iblk m c 0 t) (iblk m c 1 t) (iblk m c 2 t) (iblk m c 3 t) (iblk m c 4 t) y
      = refC m c ((win0_5.blk t).view.emb y) := by
  unfold cBlk
  rw [word_iblk]
  pointwise [k0_pay1, k0_pay8, k0_pay7, k0_pay4, k0_pay3, refC, Cert.ReferenceIdeal.Value.G5, Cert.ReferenceIdeal.Gen.k0_pay1, Cert.ReferenceIdeal.Gen.k0_pay6, Cert.ReferenceIdeal.Gen.k0_pay5, Cert.ReferenceIdeal.Gen.k0_pay4]
  blk_point [iblk, V, idx t]

end Cert.KernelIdeal.Hand

end
-- ==== Proof.KernelValue.lean ====
/- The kernel's four result arrays after the run, over the extended reals: each is the reference's result of the kernel's
   arguments. -/
module

public import proofs.«01_k».proof.Proof.Blocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- A point-by-point result: if what the body may leave at every point agrees with `G` at the block's place, the array
    ends holding `G`. -/
theorem arr_eq (c : Dev nD) (w : Fin cfg0.W) (hw : isRes w = true) (hcov : (cfg0.win w).Covers)
    (harr : (cfg0.win w).arr.IsWhole) (A G : Buf (Elt Ideal) ((cfg0.win w).arr.view.loc (c.tc : Thread nD τ)))
    (hA : (rdat m c).ArrAt w cfg0.N A)
    (hG : ∀ (t : Fin cfg0.N) (X), Rl m c w t X → ∀ y : ((cfg0.win w).xblock (cfg0.grid.coords t)).Idx,
      _root_.cast (congrArg (Elt Ideal) ((cfg0.win w).blk t).view.elt_eq.symm) (X ((cfg0.win w).xinj (cfg0.grid.coords t) y))
        = G (((cfg0.win w).blk t).view.emb y)) : A = G := by
  obtain ⟨X, hX, hX'⟩ := hA.exists_exact
  have e := hX' (Function.update (fun _ _ _ => Classical.arbitrary _) w X) fun u _ _ => by rw [Function.update_self]
  refine e.trans (Dat.arrAt_eq_of_covers _ w G hcov (fun t hf y => ?_) harr)
  rw [Pipeline.RDat.withAfter_after, Function.update_self]
  exact hG t (X t) ((dats (F := Ideal) m 0 c).toRRel_leaves hw (hX t t.isLt hf)) y

/-- The normalised activations after the run. -/
theorem arr5 (c : Dev nD) (A) (hA : (rdat m c).ArrAt 5 cfg0.N A) : A = refC m c :=
  arr_eq m c 5 (by decide) (by decide +kernel) (Memref.isWhole_whole _) A (refC m c) hA fun t X hX y => by
    have hX : X = cBlk (F := Ideal) (iblk m c 0 t) (iblk m c 1 t) (iblk m c 2 t) (iblk m c 3 t) (iblk m c 4 t) := hX
    subst hX
    exact c_point m c t y

/-- The position keys after the run. -/
theorem arr6 (c : Dev nD) (A) (hA : (rdat m c).ArrAt 6 cfg0.N A) : A = refPe m c :=
  arr_eq m c 6 (by decide) (by decide +kernel) (Memref.isWhole_whole _) A (refPe m c) hA fun t X hX y => by
    have hX : X = peBlk (F := Ideal) (iblk m c 0 t) (iblk m c 1 t) (iblk m c 2 t) (iblk m c 3 t) := hX
    subst hX
    exact pe_point m c t y

/-- The codes after the run. -/
theorem arr7 (c : Dev nD) (A) (hA : (rdat m c).ArrAt 7 cfg0.N A) : A = refCodes m c :=
  arr_eq m c 7 (by decide) (by decide +kernel) (Memref.isWhole_whole _) A (refCodes m c) hA fun t X hX y => by
    have hX : X = codesBlk (F := Ideal) (iblk m c 0 t) (iblk m c 1 t) := hX
    subst hX
    exact codes_point m c t y

/-- The last grid point, the one that writes the amax buffer back. -/
abbrev tLast : Fin cfg0.N := ⟨7, by have : cfg0.N = 8 := N_0; omega⟩

/-- What the amax buffer may hold after the last point is the reference's row maxima. -/
theorem amax_last (c : Dev nD) (X : Vec Ideal S2x1024 .f32) (hX : Rl m c 8 tLast X) : X = refAmax m c := by
  funext y
  obtain ⟨t, ht⟩ := InTile.exists y
  have hN : cfg0.N = 8 := N_0
  have htN := t.isLt
  refine (hX t (show t.val ≤ 7 by omega) y ht).trans ?_
  have h := ht
  unfold InTile at h
  rw [off1_eq] at h
  have h0 := h 0; have h1 := h 1
  simp only [Matrix.cons_val_zero, Matrix.cons_val_one, show S1x256.size 0 = 1 from rfl, show S1x256.size 1 = 256 from rfl] at h0 h1
  obtain ⟨i, hi⟩ : ∃ i : Fin 256, i.val = (y 1).val - 256 * (t.val % 4) := ⟨⟨(y 1).val - 256 * (t.val % 4), by omega⟩, rfl⟩
  have ey : y = rowIx t i := by
    funext a
    apply Fin.ext
    fin_cases a
    · show (y 0).val = t.val / 4
      omega
    · show (y 1).val = 256 * (t.val % 4) + i.val
      omega
  have eu : (Rect.unitLocal (s := S2x1024) (off := k0_off1 (grid0.coords t)) (size := S1x256.size) y ht : S1x256.Idx)
      = ix2 0 i := by
    funext a
    apply Fin.ext
    have e1 : k0_off1 (grid0.coords t) = ![t.val / 4, 256 * (t.val % 4)] := off1_eq t
    fin_cases a
    · show (y 0).val - k0_off1 (grid0.coords t) 0 = 0
      rw [e1]
      show (y 0).val - t.val / 4 = 0
      omega
    · show (y 1).val - k0_off1 (grid0.coords t) 1 = i.val
      rw [e1]
      exact hi.symm
  refine (congrArg (k0_pay6 (F := Ideal) (iblk m c 1 t)) eu).trans ((amax_point m c t i).trans ?_)
  exact congrArg (refAmax m c) ey.symm

/-- The row maxima after the run. -/
theorem arr8 (c : Dev nD) (A) (hA : (rdat m c).ArrAt 8 cfg0.N A) : A = refAmax m c := by
  obtain ⟨X, hX, hA⟩ := hA.emb_eq_of_wholeAt (t₀ := tLast) (by decide +kernel)
  have hX := amax_last m c X ((dats (F := Ideal) m 0 c).toRRel_leaves (w := 8) (by decide) hX)
  funext j
  refine (hA j).trans ?_
  exact congrFun hX j

/-- The run: the four results end as the reference's results of the arguments, and the arguments unchanged. -/
theorem run : θ_run defs (onTc (τ := τ) (main (F := Ideal))) ⟨m, fun _ => 0, ρ⟩ (fun r => ∀ c : Dev nD,
      r.2.mem ((c.tc : Thread nD τ).loc main_v2_0) = refC m c
      ∧ r.2.mem ((c.tc : Thread nD τ).loc main_v2_1) = refPe m c
      ∧ r.2.mem ((c.tc : Thread nD τ).loc main_v2_2) = refCodes m c
      ∧ r.2.mem ((c.tc : Thread nD τ).loc main_v2_3) = refAmax m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨arr5 m c _ ((h.1 c).1 5), arr6 m c _ ((h.1 c).1 6), arr7 m c _ ((h.1 c).1 7),
    arr8 m c _ ((h.1 c).1 8), args_of_post m h.1 c⟩) (run_main m ρ)

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelFrame
public import proofs.«01_k».proof.Proof.KernelValue
public import Idealize.ShloMosaic.Adequacy
public import Idealize.ShloMosaic.Init

@[expose] public section

noncomputable section

namespace Cert.Proof

open Idealize.ShloMosaic Idealize.SL.Sem

/-- From memories that agree on the arguments, the kernel and the reference end with equal results: the normalised
    activations, the position keys, the codes and the row maxima; the arguments are unchanged. -/
theorem algebraic : Cert.algebraic_KernelIdeal_ReferenceIdeal := by
  intro m g m' g' _ hag
  refine ⟨fun c => Cert.KernelIdeal.Hand.refC m c, fun c => Cert.KernelIdeal.Hand.refPe m c,
    fun c => Cert.KernelIdeal.Hand.refCodes m c, fun c => Cert.KernelIdeal.Hand.refAmax m c, Cert.KernelIdeal.Hand.run m g, ?_⟩
  refine (θ_run _ _ _).mono (fun r h c => ?_) (Cert.ReferenceIdeal.Value.run (F := Ideal) m' g')
  obtain ⟨e0, e1, e2, e3, e4⟩ := hag c
  obtain ⟨h5, h6, h7, h8, hargs⟩ := h c
  rw [e0, e1, e2, e3, e4] at h5 h6 h7 h8
  exact ⟨h5, h6, h7, h8, hargs⟩

/-- All the claims: each program leaves its arguments unchanged and its semaphores at zero, the idealized kernel is the
    kernel read over the extended reals with nothing rewritten, and it computes the reference. -/
theorem claim : Cert.Claim :=
  ⟨Cert.Kernel.Gen.facts, Cert.KernelIdeal.Gen.facts, Cert.ReferenceIdeal.Gen.facts,
    fun m g _ => Cert.Kernel.Hand.frame m g, fun m g _ => Cert.KernelIdeal.Hand.frame m g,
    fun m g _ => Cert.ReferenceIdeal.Gen.frame m g, trivial, algebraic⟩

end Cert.Proof

end
